-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_margins_ok [hPre_margins_ok : Cert.Pre_margins_ok.Facts] (m : (ℓ : Loc Cert.KernelIdeal.nD Cert.KernelIdeal.τ Cert.KernelIdeal.sig) → Buf (Elt Ideal) ℓ) : Prop :=
  ∀ c : Dev Cert.KernelIdeal.nD,
    (Cert.Pre_margins_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_margins_ok [hPre_margins_ok : Cert.Pre_margins_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_margins_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_margins_ok [hKernelIdeal : Cert.KernelIdeal.Facts] [hPre_margins_ok : Cert.Pre_margins_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_margins_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_margins_ok [hReferenceIdeal : Cert.ReferenceIdeal.Facts] [hPre_margins_ok : Cert.Pre_margins_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_margins_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_margins_ok [hKernelIdeal : Cert.KernelIdeal.Facts] [hReferenceIdeal : Cert.ReferenceIdeal.Facts] [hPre_margins_ok : Cert.Pre_margins_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_margins_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_margins_ok : Cert.Pre_margins_ok.Facts),
    quiescent_Kernel (hKernel := hKernel)
    ∧ quiescent_KernelIdeal (hKernelIdeal := hKernelIdeal)
    ∧ quiescent_KernelIdeal_pre_margins_ok (hKernelIdeal := hKernelIdeal) (hPre_margins_ok := hPre_margins_ok)
    ∧ quiescent_ReferenceIdeal (hReferenceIdeal := hReferenceIdeal)
    ∧ quiescent_ReferenceIdeal_pre_margins_ok (hReferenceIdeal := hReferenceIdeal) (hPre_margins_ok := hPre_margins_ok)
    ∧ preserves_Kernel_KernelIdeal
    ∧ algebraic_KernelIdeal_ReferenceIdeal_pre_margins_ok (hKernelIdeal := hKernelIdeal) (hReferenceIdeal := hReferenceIdeal) (hPre_margins_ok := hPre_margins_ok)
-- ==== Pre_margins_ok.lean ====
abbrev S16384x1000 : Shape := ⟨2, ![16384, 1000]⟩
abbrev S16384 : Shape := ⟨1, ![16384]⟩
abbrev S16384x1 : Shape := ⟨2, ![16384, 1]⟩
abbrev S_ : Shape := ⟨0, ![]⟩

class Facts : Prop where
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  bcast_S_S16384x1000 : S_.BroadcastsInDim S16384x1000 (![] : Fin 0 → Fin S16384x1000.rank)
  reducesTo_S16384x1000_S16384_d1 : S16384x1000.ReducesTo [1] S16384
  h_S_ : 0 < S_.numel
  bcast_S_S16384 : S_.BroadcastsInDim S16384 (![] : Fin 0 → Fin S16384.rank)
  reducesTo_S16384_S_d0 : S16384.ReducesTo [0] S_

variable [Facts]

def fn_where {F : FTy → Type} [FloatOps F] (arg0 : IVec S16384x1000 1) (arg1 : FVec F S16384x1000 .f32) (arg2 : FVec F S_ .f32) : FVec F S16384x1000 .f32 :=
  let v0 : FVec F S_ .f32 := id arg2
  let v1 : FVec F S16384x1000 .f32 := broadcastInDim S16384x1000 ![] bcast_S_S16384x1000 v0
  let v2 : FVec F S16384x1000 .f32 := select arg0 arg1 v1
  v2

def fn_where_0 {F : FTy → Type} [FloatOps F] (arg0 : IVec S16384x1000 1) (arg1 : FVec F S_ .f32) (arg2 : FVec F S16384x1000 .f32) : FVec F S16384x1000 .f32 :=
  let v0 : FVec F S_ .f32 := id arg1
  let v1 : FVec F S16384x1000 .f32 := broadcastInDim S16384x1000 ![] bcast_S_S16384x1000 v0
  let v2 : FVec F S16384x1000 .f32 := select arg0 v1 arg2
  v2

def fn {F : FTy → Type} [FloatOps F] (main_arg0 : FVec F S16384x1000 .f32) (main_arg1 : IVec S16384 32) : IVec S_ 1 :=
  let main_v0 : IVec S16384x1000 32 := iotaInDim S16384x1000 32 1
  let main_v1 : IVec S16384x1 32 := broadcastInDim S16384x1 ![0] bcast_S16384_S16384x1_0 main_arg1
  let main_v2 : IVec S16384x1000 32 := broadcastInDim S16384x1000 ![0, 1] bcast_S16384x1_S16384x1000_0_1 main_v1
  let main_v3 : IVec S16384x1000 1 := cmpi .eq main_v0 main_v2
  let main_cst : FVec F S_ .f32 := constant S_ .f32 0xFF800000#32
  let main_v4 : FVec F S16384x1000 .f32 := fn_where (F := F) main_v3 main_arg0 main_cst
  let main_cst_0 : FVec F S_ .f32 := constant S_ .f32 0xFF800000#32
  let main_v5 : FVec F S16384 .f32 := (fun x v => Host.reduce FloatOps.maximumf x v reducesTo_S16384x1000_S16384_d1 h_S_) main_v4 main_cst_0
  let main_cst_1 : FVec F S_ .f32 := constant S_ .f32 0xFF800000#32
  let main_v6 : FVec F S16384x1000 .f32 := fn_where_0 (F := F) main_v3 main_cst_1 main_arg0
  let main_cst_2 : FVec F S_ .f32 := constant S_ .f32 0xFF800000#32
  let main_v7 : FVec F S16384 .f32 := (fun x v => Host.reduce FloatOps.maximumf x v reducesTo_S16384x1000_S16384_d1 h_S_) main_v6 main_cst_2
  let main_v8 : FVec F S16384 .f32 := Host.absf main_v5
  let main_cst_3 : FVec F S_ .f32 := constant S_ .f32 0x7F800000#32
  let main_v9 : FVec F S16384 .f32 := broadcastInDim S16384 ![] bcast_S_S16384 main_cst_3
  let main_v10 : IVec S16384 1 := cmpf .olt main_v8 main_v9
  let main_v11 : IVec S16384 1 := cmpf .une main_v5 main_v7
  let main_v12 : IVec S16384 1 := ori main_v10 main_v11
  let main_c : IVec S_ 1 := constantI S_ 1 1#1
  let main_v13 : IVec S_ 1 := (fun x v => Host.reduce IntOp.andi x v reducesTo_S16384_S_d0 h_S_) main_v12 main_c
  main_v13
-- ==== Kernel.lean ====
abbrev S16384x1000 : Shape := ⟨2, ![16384, 1000]⟩
abbrev S16384 : Shape := ⟨1, ![16384]⟩
abbrev S8x4x512 : Shape := ⟨3, ![8, 4, 512]⟩
abbrev S1x1 : Shape := ⟨2, ![1, 1]⟩
abbrev S512x1000 : Shape := ⟨2, ![512, 1000]⟩
abbrev S1x4x512 : Shape := ⟨3, ![1, 4, 512]⟩
abbrev S1x1x512 : Shape := ⟨3, ![1, 1, 512]⟩
abbrev S512 : Shape := ⟨1, ![512]⟩
abbrev S512x1 : Shape := ⟨2, ![512, 1]⟩
abbrev S1x512 : Shape := ⟨2, ![1, 512]⟩
abbrev S1 : Shape := ⟨1, ![1]⟩
abbrev S_ : Shape := ⟨0, ![]⟩

abbrev nBuf : Space → Nat
  | .hbm => 8
  | .vmem => 11
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S8x4x512, .i32⟩
  | .hbm, ⟨3, _⟩ => ⟨S1x1, .f32⟩
  | .hbm, ⟨4, _⟩ => ⟨S1, .f32⟩
  | .hbm, ⟨5, _⟩ => ⟨S_, .f32⟩
  | .hbm, ⟨6, _⟩ => ⟨S1, .f32⟩
  | .hbm, ⟨7, _⟩ => ⟨S1, .f32⟩
  | .local _ .vmem, ⟨0, _⟩ => ⟨S512x1000, .f32⟩
  | .local _ .vmem, ⟨1, _⟩ => ⟨S512x1000, .f32⟩
  | .local _ .vmem, ⟨2, _⟩ => ⟨S512x1000, .f32⟩
  | .local _ .vmem, ⟨3, _⟩ => ⟨S512x1000, .f32⟩
  | .local _ .vmem, ⟨4, _⟩ => ⟨S512x1000, .f32⟩
  | .local _ .vmem, ⟨5, _⟩ => ⟨S512x1000, .f32⟩
  | .local _ .vmem, ⟨6, _⟩ => ⟨S512x1000, .f32⟩
  | .local _ .vmem, ⟨7, _⟩ => ⟨S512x1000, .f32⟩
  | .local _ .vmem, ⟨8, _⟩ => ⟨S1x4x512, .i32⟩
  | .local _ .vmem, ⟨9, _⟩ => ⟨S1x4x512, .i32⟩
  | .local _ .vmem, ⟨10, _⟩ => ⟨S1x1, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16384x1000 : Shape := ⟨2, ![16384, 1000]⟩
abbrev S16384 : Shape := ⟨1, ![16384]⟩
abbrev S16384x1 : Shape := ⟨2, ![16384, 1]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S1x1000 : Shape := ⟨2, ![1, 1000]⟩

abbrev nBuf : Space → Nat
  | .hbm => 64
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S16384x1, .i32⟩
  | .hbm, ⟨3, _⟩ => ⟨S_, .i32⟩
  | .hbm, ⟨4, _⟩ => ⟨S16384x1, .i32⟩
  | .hbm, ⟨5, _⟩ => ⟨S16384x1, .i1⟩
  | .hbm, ⟨6, _⟩ => ⟨S_, .i32⟩
  | .hbm, ⟨7, _⟩ => ⟨S16384x1, .i32⟩
  | .hbm, ⟨8, _⟩ => ⟨S16384x1, .i32⟩
  | .hbm, ⟨9, _⟩ => ⟨S16384x1, .i32⟩
  | .hbm, ⟨10, _⟩ => ⟨S16384x1x1, .i32⟩
  | .hbm, ⟨11, _⟩ => ⟨S1, .i32⟩
  | .hbm, ⟨12, _⟩ => ⟨S_, .i32⟩
  | .hbm, ⟨13, _⟩ => ⟨S16384x1x1, .i32⟩
  | .hbm, ⟨14, _⟩ => ⟨S16384x1x1, .i1⟩
  | .hbm, ⟨15, _⟩ => ⟨S1x1x1, .i32⟩
  | .hbm, ⟨16, _⟩ => ⟨S16384x1x1, .i32⟩
  | .hbm, ⟨17, _⟩ => ⟨S16384x1x1, .i1⟩
  | .hbm, ⟨18, _⟩ => ⟨S16384x1x1, .i1⟩
  | .hbm, ⟨19, _⟩ => ⟨S_, .i1⟩
  | .hbm, ⟨20, _⟩ => ⟨S16384x1, .i1⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .i32⟩
  | .hbm, ⟨26, _⟩ => ⟨S1x1000, .i32⟩
  | .hbm, ⟨27, _⟩ => ⟨S16384x1000, .i32⟩
  | .hbm, ⟨28, _⟩ => ⟨S16384x1000, .i32⟩
  | .hbm, ⟨29, _⟩ => ⟨S16384x1000, .i1⟩
  | .hbm, ⟨30, _⟩ => ⟨S_, .f32⟩
  | .hbm, ⟨31, _⟩ => ⟨S_, .f32⟩
  | .hbm, ⟨32, _⟩ => ⟨S16384x1000, .f32⟩
  | .hbm, ⟨33, _⟩ => ⟨S16384x1000, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .i1⟩
  | .hbm, ⟨48, _⟩ => ⟨S_, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .i1⟩
  | .hbm, ⟨55, _⟩ => ⟨S_, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S_, .f32⟩
  | .hbm, ⟨60, _⟩ => ⟨S1, .f32⟩
  | .hbm, ⟨61, _⟩ => ⟨S_, .f32⟩
  | .hbm, ⟨62, _⟩ => ⟨S1, .f32⟩
  | .hbm, ⟨63, _⟩ => ⟨S1, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_v2 : Ref sig .tc := ⟨.hbm, 29, rfl⟩
abbrev main_cst : Ref sig .tc := ⟨.hbm, 30, rfl⟩
abbrev main_call2_v0 : Ref sig .tc := ⟨.hbm, 31, rfl⟩
abbrev main_call2_v1 : Ref sig .tc := ⟨.hbm, 32, rfl⟩
abbrev main_v3 : Ref sig .tc := ⟨.hbm, 33, rfl⟩
abbrev main_cst_0 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_1 : Ref sig .tc := ⟨.hbm, 39, rfl⟩
abbrev main_v8 : Ref sig .tc := ⟨.hbm, 40, rfl⟩
abbrev main_v9 : Ref sig .tc := ⟨.hbm, 41, rfl⟩
abbrev main_cst_2 : Ref sig .tc := ⟨.hbm, 42, rfl⟩
abbrev main_v10 : Ref sig .tc := ⟨.hbm, 43, rfl⟩
abbrev main_v11 : Ref sig .tc := ⟨.hbm, 44, rfl⟩
abbrev main_cst_3 : Ref sig .tc := ⟨.hbm, 45, rfl⟩
abbrev main_v12 : Ref sig .tc := ⟨.hbm, 46, rfl⟩
abbrev main_v13 : Ref sig .tc := ⟨.hbm, 47, rfl⟩
abbrev main_cst_4 : Ref sig .tc := ⟨.hbm, 48, rfl⟩
abbrev main_call3_v0 : Ref sig .tc := ⟨.hbm, 49, rfl⟩
abbrev main_call3_v1 : Ref sig .tc := ⟨.hbm, 50, rfl⟩
abbrev main_v14 : Ref sig .tc := ⟨.hbm, 51, rfl⟩
abbrev main_cst_5 : Ref sig .tc := ⟨.hbm, 52, rfl⟩
abbrev main_v15 : Ref sig .tc := ⟨.hbm, 53, rfl⟩
abbrev main_v16 : Ref sig .tc := ⟨.hbm, 54, rfl⟩
abbrev main_cst_6 : Ref sig .tc := ⟨.hbm, 55, rfl⟩
abbrev main_call4_v0 : Ref sig .tc := ⟨.hbm, 56, rfl⟩
abbrev main_call4_v1 : Ref sig .tc := ⟨.hbm, 57, rfl⟩
abbrev main_v17 : Ref sig .tc := ⟨.hbm, 58, rfl⟩
abbrev main_cst_7 : Ref sig .tc := ⟨.hbm, 59, rfl⟩
abbrev main_v18 : Ref sig .tc := ⟨.hbm, 60, rfl⟩
abbrev main_cst_8 : Ref sig .tc := ⟨.hbm, 61, rfl⟩
abbrev main_v19 : Ref sig .tc := ⟨.hbm, 62, rfl⟩
abbrev main_v20 : Ref sig .tc := ⟨.hbm, 63, rfl⟩

abbrev nD : Nat := 1
abbrev τ : Topo := Topo.v7x

variable {F : FTy → Type} [FloatOps F]
-- ==== Proof.Ramp.RowLoss.lean ====
/- The ramp loss of one row of logits, and the running total of the rows' losses. Nothing here knows
   either program: these are the quantities both of them are shown to compute. -/
module

public import Idealize.ShloMosaic.Lib.Pointwise

@[expose] public section

noncomputable section

namespace Cert.Ramp

open Idealize.ShloMosaic

/-- The value masked entries take: minus infinity, as the programs write it. -/
abbrev low : EReal := Ideal.ofBits .f32 0xFF800000#32

/-- Whether class `j` is the one the target word `t` names, as a one-bit word. -/
abbrev isNamed (t : BitVec 32) (j : Fin 1000) : BitVec 1 := IntOp.cmpi .eq (BitVec.ofNat 32 j.val) t

/-- The named class's logit, read as a maximum over the row with every other entry masked. -/
def named (x : Fin 1000 → EReal) (t : BitVec 32) : EReal :=
  Finset.univ.fold max low fun j => Scalar.select (isNamed t j) (x j) low

/-- The largest logit of the row apart from the named class's. -/
def rival (x : Fin 1000 → EReal) (t : BitVec 32) : EReal :=
  Finset.univ.fold max low fun j => Scalar.select (isNamed t j) low (x j)

/-- The ramp loss of a row: the margin by which the rival beats the named class, plus one, held
    between zero and one. -/
def rowLoss (x : Fin 1000 → EReal) (t : BitVec 32) : EReal :=
  min 1 (max 0 (1 + Ideal.div (rival x t - named x t) 1))

/-- The loss of row `n` of a batch; rows past the end count for nothing. -/
def lossAt (X : Fin 16384 → Fin 1000 → EReal) (T : Fin 16384 → BitVec 32) (n : ℕ) : EReal :=
  if h : n < 16384 then rowLoss (X ⟨n, h⟩) (T ⟨n, h⟩) else 0

/-- A row inside the batch contributes its ramp loss. -/
theorem lossAt_of_lt (X : Fin 16384 → Fin 1000 → EReal) (T : Fin 16384 → BitVec 32) (n : ℕ)
    (h : n < 16384) : lossAt X T n = rowLoss (X ⟨n, h⟩) (T ⟨n, h⟩) := dif_pos h

/-- The losses of the first `n` rows, added up. -/
def total (X : Fin 16384 → Fin 1000 → EReal) (T : Fin 16384 → BitVec 32) (n : ℕ) : EReal :=
  ∑ i ∈ Finset.range n, lossAt X T i

/-- No rows, no loss. -/
theorem total_zero (X : Fin 16384 → Fin 1000 → EReal) (T : Fin 16384 → BitVec 32) :
    total X T 0 = 0 := by simp [total]

/-- A run of further rows adds the sum of their losses. -/
theorem total_add (X : Fin 16384 → Fin 1000 → EReal) (T : Fin 16384 → BitVec 32) (n k : ℕ) :
    total X T (n + k) = total X T n + ∑ r : Fin k, lossAt X T (n + r.val) := by
  unfold total
  rw [Finset.sum_range_add, Finset.sum_range fun i => lossAt X T (n + i)]

/-- Four runs of 512 rows, one after another, add the sums of their losses. -/
theorem total_four_runs (X : Fin 16384 → Fin 1000 → EReal) (T : Fin 16384 → BitVec 32) (n : ℕ) :
    total X T (n + 2048) = total X T n
      + (∑ r : Fin 512, lossAt X T (n + 0 + r.val) + ∑ r : Fin 512, lossAt X T (n + 512 + r.val)
        + ∑ r : Fin 512, lossAt X T (n + 1024 + r.val) + ∑ r : Fin 512, lossAt X T (n + 1536 + r.val)) := by
  rw [show n + 2048 = n + 0 + 512 + 512 + 512 + 512 by omega, total_add, total_add, total_add, total_add]
  simp only [add_assoc, add_zero, Nat.reduceAdd, Nat.add_zero]

/-- The whole batch's total is the sum over its rows. -/
theorem total_all (X : Fin 16384 → Fin 1000 → EReal) (T : Fin 16384 → BitVec 32) :
    total X T 16384 = ∑ n : Fin 16384, rowLoss (X n) (T n) := by
  unfold total
  rw [Finset.sum_range]
  exact Finset.sum_congr rfl fun n _ => lossAt_of_lt X T n.val n.isLt

end Cert.Ramp

end
-- ==== Proof.Ramp.Body.lean ====
/- What one grid step of the kernel adds to its accumulator: four runs of 512 row losses. -/
module

public import proofs.«01_k».proof.Proof.Ramp.RowLoss
public import proofs.«01_k».proof.Proof.Gen.KernelIdeal.Skeleton
public import Idealize.ShloMosaic.Lib.Pipeline.Value

@[expose] public section

set_option maxRecDepth 16384

noncomputable section

namespace Cert.KernelIdeal.Ramp

open Idealize.ShloMosaic
open Cert.KernelIdeal Cert.KernelIdeal.Gen Cert.Ramp

/-- The losses of a block of 512 rows against its 512 targets, added up. -/
def wayLoss (x : Vec Ideal S512x1000 .f32) (t : Fin 512 → BitVec 32) : EReal :=
  ∑ r : Fin 512, rowLoss (fun j => x (ix2 r j)) (t r)

/-- The targets in a row of the target block. -/
abbrev rowOf (t : Vec Ideal S1x1x512 .i32) (r : Fin 512) : BitVec 32 := t (ix3 0 0 r)

/-- The first block starts the step's sum. -/
theorem first_way (x : Vec Ideal S512x1000 .f32) (t : Vec Ideal S1x1x512 .i32) (a b : Fin 1) :
    k0_pay2 (F := Ideal) x t (ix2 a b) = wayLoss x (rowOf t) := by
  pointwise [k0_pay2]
  rfl

/-- The second block adds to it. -/
theorem second_way (s : FVec Ideal S1x1 .f32) (x : Vec Ideal S512x1000 .f32)
    (t : Vec Ideal S1x1x512 .i32) (a b : Fin 1) :
    k0_pay5 (F := Ideal) s x (k0_pay3 (F := Ideal) t) (k0_pay4 x t) (ix2 a b)
      = s (ix2 a b) + wayLoss x (rowOf t) := by
  pointwise [k0_pay5, k0_pay3, k0_pay4]
  rfl

/-- The third and fourth blocks add to it. -/
theorem last_ways (s : FVec Ideal S1x1 .f32) (x y : Vec Ideal S512x1000 .f32)
    (t u : Vec Ideal S1x1x512 .i32) (a b : Fin 1) :
    k0_pay7 (F := Ideal) s (FloatOps.ofBits .f32 0x3F800000#32) (k0_pay6 x t) y u (ix2 a b)
      = s (ix2 a b) + wayLoss x (rowOf t) + wayLoss y (rowOf u) := by
  pointwise [k0_pay7, k0_pay6]
  rfl

/-- What the step stores: the accumulator it found plus the step's sum. -/
theorem stored (s o : FVec Ideal S1x1 .f32) (a b : Fin 1) :
    k0_pay1 (F := Ideal) s o (ix2 a b) = o (ix2 a b) + s (ix2 a b) := by
  pointwise [k0_pay1]

/-- The accumulator's starting value is zero. -/
theorem cleared (a b : Fin 1) : k0_pay8 (F := Ideal) (ix2 a b) = 0 := by
  pointwise [k0_pay8]

/-- Row `k` of the target block, as the body loads it. -/
abbrev way (t : Vec Ideal S1x4x512 .i32) (k : Fin 4)
    (inb : ∀ a, (![0, k.val, 0] : Fin 3 → Nat) a + (![1, 1, 512] : Fin 3 → Nat) a ≤ S1x4x512.size a) :
    Vec Ideal S1x1x512 .i32 := View.ld t (Rect.unit ![0, k.val, 0] ![1, 1, 512] inb)

/-- That load reads the target block at row `k`. -/
theorem rowOf_way (t : Vec Ideal S1x4x512 .i32) (k : Fin 4) (inb) (r : Fin 512) :
    rowOf (way t k inb) r = t (ix3 0 k r) := by
  show t ((Rect.unit (s := S1x4x512) ![0, k.val, 0] ![1, 1, 512] inb).idx (ix3 0 0 r)) = _
  congr 1
  funext a
  apply Fin.ext
  match a with
  | ⟨0, _⟩ => show 0 + 1 * 0 = 0; rfl
  | ⟨1, _⟩ => show k.val + 1 * 0 = k.val; omega
  | ⟨2, _⟩ => show 0 + 1 * r.val = r.val; omega

end Cert.KernelIdeal.Ramp

end
-- ==== Proof.Ramp.Blocks.lean ====
/- What the kernel's windows show the body at each grid step, in terms of the two arguments. -/
module

public import proofs.«01_k».proof.Proof.Ramp.Body
public import proofs.«01_k».proof.Proof.Gen.KernelIdeal.Frame
public import Idealize.ShloMosaic.Lib.StableHlo.Run

@[expose] public section

set_option maxRecDepth 16384

noncomputable section

namespace Cert.KernelIdeal.Ramp

open Idealize.ShloMosaic Idealize.ShloMosaic.TcCoe Idealize.SL.Sem
open Cert.KernelIdeal Cert.KernelIdeal.Gen Cert.Ramp

variable (m : (ℓ : Loc nD τ sig) → Buf (Elt Ideal) ℓ)

/-- The logits on core `c`, by row and class. -/
def logits (c : Dev nD) (n : Fin 16384) (j : Fin 1000) : EReal :=
  m ((c : Thread nD τ).loc main_arg0) (ix2 n j)

/-- The target words on core `c`, by row. -/
def targets (c : Dev nD) (n : Fin 16384) : BitVec 32 :=
  m ((c : Thread nD τ).loc main_arg1) (ix1 n)

/-- The row of the batch that is row `r` of block `k` at step `t`. -/
abbrev rowAt (t : Fin cfg0.N) (k : Fin 4) (r : Fin 512) : Fin 16384 :=
  ⟨2048 * t.val + 512 * k.val + r.val, by have := lt_of_lt_of_eq t.isLt (show cfg0.N = 8 from N_0); omega⟩

/-- Before the grid starts, the target words are laid out by step, block and row. -/
theorem laid_out (c : Dev nD) : V m c main_v0
    = (shapeCast S8x4x512 (m ((c : Thread nD τ).loc main_arg1)) shapeCasts_S16384_S8x4x512 : Vec Ideal S8x4x512 .i32) := by
  show StableHlo.after (List.flatten [hostOps0]) (fun b => m (c, b)) (Proc.devRef .tc main_v0) = _
  simp only [List.flatten_cons, List.flatten_nil, List.append_nil, hostOps0]
  after_results
  rfl

/-- Entry `(t, k, r)` of that layout is the target of the row the position stands for. -/
theorem laid_out_apply (c : Dev nD) (t : Fin cfg0.N) (k : Fin 4) (r : Fin 512) :
    V m c main_v0 (ix3 (t.cast N_0) k r) = targets m c (rowAt t k r) := by
  rw [laid_out]
  unfold targets
  pointwise []
  congr 2
  apply Fin.ext
  show t.val * 2048 + k.val * 512 + r.val = 2048 * t.val + 512 * k.val + r.val
  omega

/-- An entry of the logits in row `(4 t + k) * 512 + r` is the logit of the row the position stands
    for: the one fact about positions that the four logit windows share. -/
theorem logits_at (c : Dev nD) (t : Fin cfg0.N) (k : Fin 4) (r : Fin 512) (j : Fin 1000)
    (i : S16384x1000.Idx) (h0 : (i 0).val = (4 * t.val + k.val) * 512 + 1 * r.val)
    (h1 : (i 1).val = 0 * 1000 + 1 * j.val) :
    (V m c main_arg0 : Vec Ideal S16384x1000 .f32) i = logits m c (rowAt t k r) j := by
  rw [V_main_arg0]
  unfold logits
  congr 1
  funext a
  apply Fin.ext
  match a with
  | ⟨0, _⟩ => show (i 0).val = 2048 * t.val + 512 * k.val + r.val; rw [h0]; omega
  | ⟨1, _⟩ => show (i 1).val = j.val; rw [h1]; omega

/-- The first logit window shows block 0 of the step. -/
theorem logits_block0 (c : Dev nD) (t : Fin cfg0.N) (r : Fin 512) (j : Fin 1000) :
    (iblk m c 0 t : Vec Ideal S512x1000 .f32) (ix2 r j) = logits m c (rowAt t 0 r) j := by
  have hi : win0_0.index t 0 = 4 * t.val + 0 ∧ win0_0.index t 1 = 0 := by
    rcases fin_N0 t with rfl | rfl | rfl | rfl | rfl | rfl | rfl | rfl <;> decide
  unfold iblk
  rw [View.read_apply]
  exact logits_at m c t 0 r j _
    (show win0_0.index t 0 * 512 + 1 * r.val = _ by rw [hi.1]; rfl)
    (show win0_0.index t 1 * 1000 + 1 * j.val = _ by rw [hi.2])

/-- The second logit window shows block 1 of the step. -/
theorem logits_block1 (c : Dev nD) (t : Fin cfg0.N) (r : Fin 512) (j : Fin 1000) :
    (iblk m c 1 t : Vec Ideal S512x1000 .f32) (ix2 r j) = logits m c (rowAt t 1 r) j := by
  have hi : win0_1.index t 0 = 4 * t.val + 1 ∧ win0_1.index t 1 = 0 := by
    rcases fin_N0 t with rfl | rfl | rfl | rfl | rfl | rfl | rfl | rfl <;> decide
  unfold iblk
  rw [View.read_apply]
  exact logits_at m c t 1 r j _
    (show win0_1.index t 0 * 512 + 1 * r.val = _ by rw [hi.1]; rfl)
    (show win0_1.index t 1 * 1000 + 1 * j.val = _ by rw [hi.2])

/-- The third logit window shows block 2 of the step. -/
theorem logits_block2 (c : Dev nD) (t : Fin cfg0.N) (r : Fin 512) (j : Fin 1000) :
    (iblk m c 2 t : Vec Ideal S512x1000 .f32) (ix2 r j) = logits m c (rowAt t 2 r) j := by
  have hi : win0_2.index t 0 = 4 * t.val + 2 ∧ win0_2.index t 1 = 0 := by
    rcases fin_N0 t with rfl | rfl | rfl | rfl | rfl | rfl | rfl | rfl <;> decide
  unfold iblk
  rw [View.read_apply]
  exact logits_at m c t 2 r j _
    (show win0_2.index t 0 * 512 + 1 * r.val = _ by rw [hi.1]; rfl)
    (show win0_2.index t 1 * 1000 + 1 * j.val = _ by rw [hi.2])

/-- The fourth logit window shows block 3 of the step. -/
theorem logits_block3 (c : Dev nD) (t : Fin cfg0.N) (r : Fin 512) (j : Fin 1000) :
    (iblk m c 3 t : Vec Ideal S512x1000 .f32) (ix2 r j) = logits m c (rowAt t 3 r) j := by
  have hi : win0_3.index t 0 = 4 * t.val + 3 ∧ win0_3.index t 1 = 0 := by
    rcases fin_N0 t with rfl | rfl | rfl | rfl | rfl | rfl | rfl | rfl <;> decide
  unfold iblk
  rw [View.read_apply]
  exact logits_at m c t 3 r j _
    (show win0_3.index t 0 * 512 + 1 * r.val = _ by rw [hi.1]; rfl)
    (show win0_3.index t 1 * 1000 + 1 * j.val = _ by rw [hi.2])

/-- The target window shows the step's target words, by block and row. -/
theorem targets_block (c : Dev nD) (t : Fin cfg0.N) (k : Fin 4) (r : Fin 512) :
    (iblk m c 4 t : Vec Ideal S1x4x512 .i32) (ix3 0 k r) = targets m c (rowAt t k r) := by
  have hi : win0_4.index t 0 = t.val ∧ win0_4.index t 1 = 0 ∧ win0_4.index t 2 = 0 := by
    rcases fin_N0 t with rfl | rfl | rfl | rfl | rfl | rfl | rfl | rfl <;> decide
  rw [← laid_out_apply]
  unfold iblk
  rw [View.read_apply]
  show V m c main_v0 _ = _
  congr 1
  funext a
  apply Fin.ext
  match a with
  | ⟨0, _⟩ => show win0_4.index t 0 * 1 + 1 * 0 = t.val; rw [hi.1]; omega
  | ⟨1, _⟩ => show win0_4.index t 1 * 4 + 1 * k.val = k.val; rw [hi.2.1]; omega
  | ⟨2, _⟩ => show win0_4.index t 2 * 512 + 1 * r.val = r.val; rw [hi.2.2]; omega

/-- A block whose rows and targets are those of block `k` of step `t` has the summed loss of those
    512 rows of the batch. -/
theorem wayLoss_eq (c : Dev nD) (t : Fin cfg0.N) (k : Fin 4) (q : ℕ) (hq : q = 512 * k.val)
    (x : Vec Ideal S512x1000 .f32) (u : Fin 512 → BitVec 32) (hx : ∀ r j, x (ix2 r j) = logits m c (rowAt t k r) j)
    (hu : ∀ r, u r = targets m c (rowAt t k r)) :
    wayLoss x u = ∑ r : Fin 512,
      lossAt (logits m c) (targets m c) (2048 * t.val + q + r.val) := by
  subst hq
  unfold wayLoss
  refine Finset.sum_congr rfl fun r _ => ?_
  rw [lossAt_of_lt _ _ _ (rowAt t k r).isLt, hu r, show (fun j => x (ix2 r j)) = logits m c (rowAt t k r) from funext (hx r)]

end Cert.KernelIdeal.Ramp

end
-- ==== Proof.Ramp.KernelValue.lean ====
/- What the kernel's run leaves in its result: the mean of the rows' losses. -/
module

public import proofs.«01_k».proof.Proof.Ramp.Blocks
public import Idealize.ShloMosaic.Lib.Tactic

@[expose] public section

set_option maxRecDepth 16384

noncomputable section

namespace Cert.KernelIdeal.Ramp

open Idealize.ShloMosaic Idealize.ShloMosaic.TcCoe Idealize.SL.Sem
open Idealize.ShloMosaic.Pipeline (Dat)
open Cert.KernelIdeal Cert.KernelIdeal.Gen Cert.Ramp

/-- A whole two-dimensional block starts at the origin. -/
theorem origin2 : (![0, 0] : Fin 2 → Nat) = fun _ => 0 := funext fun a => by fin_cases a <;> rfl

/-- The sum a step adds, as the body computes it from its five input blocks. -/
def stepSum (x0 x1 x2 x3 : Vec Ideal S512x1000 .f32) (x4 : Vec Ideal S1x4x512 .i32) : FVec Ideal S1x1 .f32 :=
  k0_pay7 (k0_pay5 (k0_pay2 x0 (way x4 0 inb_S1x4x512_S1x1x512_0_0_0)) x1
      (k0_pay3 (F := Ideal) (way x4 1 inb_S1x4x512_S1x1x512_0_1_0)) (k0_pay4 x1 (way x4 1 inb_S1x4x512_S1x1x512_0_1_0)))
    (FloatOps.ofBits .f32 0x3F800000#32) (k0_pay6 x2 (way x4 2 inb_S1x4x512_S1x1x512_0_2_0))
    x3 (way x4 3 inb_S1x4x512_S1x1x512_0_3_0)

/-- It is the sum of the four blocks' losses. -/
theorem stepSum_eq (x0 x1 x2 x3 : Vec Ideal S512x1000 .f32) (x4 : Vec Ideal S1x4x512 .i32) (a b : Fin 1) :
    stepSum x0 x1 x2 x3 x4 (ix2 a b)
      = wayLoss x0 (fun r => x4 (ix3 0 0 r)) + wayLoss x1 (fun r => x4 (ix3 0 1 r))
        + wayLoss x2 (fun r => x4 (ix3 0 2 r)) + wayLoss x3 (fun r => x4 (ix3 0 3 r)) := by
  unfold stepSum
  rw [last_ways, second_way, first_way]
  simp only [show ∀ (k : Fin 4) inb, rowOf (way x4 k inb) = fun r => x4 (ix3 0 k r) from
    fun k inb => funext (rowOf_way x4 k inb)]

/-- At a step after the first, the body leaves what it found plus the step's sum. -/
theorem later_step (c : Dev nD) (i : grid0.Coords) (a1 : Memref sig .tc .vmem S512x1000 .f32) (h1 : a1.IsWhole)
    (a2 : Memref sig .tc .vmem S512x1000 .f32) (h2 : a2.IsWhole) (a3 : Memref sig .tc .vmem S512x1000 .f32) (h3 : a3.IsWhole)
    (a4 : Memref sig .tc .vmem S512x1000 .f32) (h4 : a4.IsWhole) (a5 : Memref sig .tc .vmem S1x4x512 .i32) (h5 : a5.IsWhole)
    (a6 : Memref sig .tc .vmem S1x1 .f32) (h6 : a6.IsWhole) (hc : ¬cond0_0 i)
    (x0 x1 x2 x3 : Vec Ideal S512x1000 .f32) (x4 : Vec Ideal S1x4x512 .i32) (xo : Vec Ideal S1x1 .f32) :
    out0_B_5 (F := Ideal) c i a1 h1 a2 h2 a3 h3 a4 h4 a5 h5 a6 h6 hc x0 x1 x2 x3 x4 xo
      = k0_pay1 (stepSum x0 x1 x2 x3 x4) xo := by
  unfold out0_B_5
  rw [View.read_writes_eq_canon _ _ _ (cover0_B_5 c i a1 h1 a2 h2 a3 h3 a4 h4 a5 h5 a6 h6 hc x0 x1 x2 x3 x4 xo)]
  unfold kernelRun0_B
  dsimp only
  sl_unfold_words
  rw [View.canon_unit_zero origin2]
  simp only [View.readAt_eq_ld, h1.read_unread, h2.read_unread, h3.read_unread, h4.read_unread, h5.read_unread,
    h6.read_unread, View.ld_unit_zero (S := S512x1000) origin2, View.ld_unit_zero (S := S1x1) origin2]
  rfl

/-- At the first step, the body clears the accumulator and leaves the step's sum added to that. -/
theorem first_step (c : Dev nD) (i : grid0.Coords) (a1 : Memref sig .tc .vmem S512x1000 .f32) (h1 : a1.IsWhole)
    (a2 : Memref sig .tc .vmem S512x1000 .f32) (h2 : a2.IsWhole) (a3 : Memref sig .tc .vmem S512x1000 .f32) (h3 : a3.IsWhole)
    (a4 : Memref sig .tc .vmem S512x1000 .f32) (h4 : a4.IsWhole) (a5 : Memref sig .tc .vmem S1x4x512 .i32) (h5 : a5.IsWhole)
    (a6 : Memref sig .tc .vmem S1x1 .f32) (h6 : a6.IsWhole) (hc : cond0_0 i)
    (x0 x1 x2 x3 : Vec Ideal S512x1000 .f32) (x4 : Vec Ideal S1x4x512 .i32) :
    out0_A_5 (F := Ideal) c i a1 h1 a2 h2 a3 h3 a4 h4 a5 h5 a6 h6 hc x0 x1 x2 x3 x4
      = k0_pay1 (stepSum x0 x1 x2 x3 x4) (k0_pay8 (F := Ideal)) := by
  unfold out0_A_5
  rw [View.read_writes_eq_canon _ _ _ (cover0_A_5 c i a1 h1 a2 h2 a3 h3 a4 h4 a5 h5 a6 h6 hc x0 x1 x2 x3 x4)]
  unfold kernelRun0_A
  dsimp only
  sl_unfold_words
  rw [View.canon_cons_unit_zero (S := S1x1) origin2, View.readCov_unit_zero (S := S1x1) _ origin2]
  simp only [View.readAt_eq_ld, h1.read_unread, h2.read_unread, h3.read_unread, h4.read_unread, h5.read_unread,
    View.ld_unit_zero (S := S512x1000) origin2]
  rfl

variable (m : (ℓ : Loc nD τ sig) → Buf (Elt Ideal) ℓ) (ρ : Dev nD → PrngReg)

/-- The accumulator holding the losses of the first `n` rows. -/
def held (c : Dev nD) (n : ℕ) : Vec Ideal S1x1 .f32 := fun _ => total (logits m c) (targets m c) n

/-- A step moves the accumulator on by its 2048 rows. -/
theorem advance (c : Dev nD) (t : Fin cfg0.N) (o : Vec Ideal S1x1 .f32) (ho : o = held m c (2048 * t.val)) :
    k0_pay1 (stepSum (iblk m c 0 t) (iblk m c 1 t) (iblk m c 2 t) (iblk m c 3 t) (iblk m c 4 t)) o
      = held m c (2048 * (t.val + 1)) := by
  subst ho
  funext j
  idx_vars j
  rw [stored, stepSum_eq]
  rw [wayLoss_eq m c t 0 0 rfl _ _ (logits_block0 m c t) (targets_block m c t 0),
    wayLoss_eq m c t 1 512 rfl _ _ (logits_block1 m c t) (targets_block m c t 1),
    wayLoss_eq m c t 2 1024 rfl _ _ (logits_block2 m c t) (targets_block m c t 2),
    wayLoss_eq m c t 3 1536 rfl _ _ (logits_block3 m c t) (targets_block m c t 3)]
  show total _ _ (2048 * t.val) + _ = total _ _ (2048 * (t.val + 1))
  rw [show 2048 * (t.val + 1) = 2048 * t.val + 2048 by omega, total_four_runs]

/-- After step `n` the accumulator holds the losses of the rows seen so far. -/
theorem accumulated (c : Dev nD) : ∀ (n : ℕ) (h : n < cfg0.N), outsAt0 m c n h = held m c (2048 * (n + 1))
  | 0, h => by
    refine (outsAt0_A m c ⟨0, h⟩ rfl).trans ?_
    rw [first_step]
    refine advance m c ⟨0, h⟩ _ ?_
    funext j
    idx_vars j
    rw [cleared]
    exact (total_zero _ _).symm
  | n + 1, h => by
    have hN : cfg0.N = 8 := N_0
    refine (outsAt0_B m c ⟨n + 1, h⟩ (by dsimp only; omega)).trans ?_
    rw [later_step]
    exact advance m c ⟨n + 1, h⟩ _ (accumulated c n _)

/-- The result array at the end: the losses of all the rows. -/
abbrev sumOfLosses (c : Dev nD) : Buf (Elt Ideal) ((c : Thread nD τ).loc main_v1) := held m c 16384

/-- The one write-back, after the last step, writes that total. -/
theorem written_back (c : Dev nD) (t : Fin cfg0.N) (hf : (cfg0.win 5).flush t = true) :
    (dats m 0 c).flushed 5 t = ((cfg0.win 5).blk t).view.read (Elt Ideal) (sumOfLosses m c) := by
  have hN : cfg0.N = 8 := N_0
  have h7 : t.val = 7 := by have := (flush0_5 t).mp hf; have := t.isLt; omega
  obtain rfl : t = t0_7 := Fin.ext h7
  show (cfg0.win 5).cut (grid0.coords t0_7) ((dats m 0 c).after 5 t0_7) = _
  rw [after0_5, accumulated, show held m c (2048 * (t0_7.val + 1)) = sumOfLosses m c from congrArg (held m c) (by decide)]
  have hz : (fun a => win0_5.index t0_7 a * main_v1.ty.shape.size a) = fun _ => 0 := funext fun a => by fin_cases a <;> decide
  exact (Memref.read_access_unit_zero (Elt Ideal) main_v1 hz (fun a => by rw [congrFun hz a]; simp) (sumOfLosses m c)).symm

/-- So the result array ends holding the total. -/
theorem array_total (c : Dev nD) : (dats m 0 c).arrAt 5 cfg0.N = sumOfLosses m c :=
  (dats m 0 c).arrAt_eq_of_cover 5 (sumOfLosses m c) (written_back m c) fun i =>
    ⟨t0_7, (flush0_5 t0_7).mpr rfl, by
      show i ∈ ((View.whole main_v1).slice (win0_5.rect t0_7)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index t0_7 0 * win0_5.size 0 ≤ (i 0 : Nat) ∧ (i 0 : Nat) < win0_5.index t0_7 0 * win0_5.size 0 + win0_5.xsize (grid0.coords t0_7) 0
        rw [show win0_5.index t0_7 0 * win0_5.size 0 = 0 from by decide +kernel, show win0_5.xsize (grid0.coords t0_7) 0 = 1 from by decide +kernel]; omega
      | ⟨1, _⟩ =>
        show win0_5.index t0_7 1 * win0_5.size 1 ≤ (i 1 : Nat) ∧ (i 1 : Nat) < win0_5.index t0_7 1 * win0_5.size 1 + win0_5.xsize (grid0.coords t0_7) 1
        rw [show win0_5.index t0_7 1 * win0_5.size 1 = 0 from by decide +kernel, show win0_5.xsize (grid0.coords t0_7) 1 = 1 from by decide +kernel]; omega⟩

/-- The kernel's final value: the total over the number of rows. -/
def meanLoss (c : Dev nD) : Vec Ideal S1 .f32 := fun _ =>
  Ideal.div (total (logits m c) (targets m c) 16384) (Ideal.ofBits .f32 0x46800000#32)

/-- The lines after the grid divide the total by the number of rows. -/
theorem divided (c : Dev nD) :
    Pipeline.afterTail₀ cfgs (dats m) 0 (V0 m) [hostOps1] c main_v4 = meanLoss m c := by
  unfold Pipeline.afterTail₀
  simp only [List.flatten_cons, List.flatten_nil, List.append_nil, hostOps1]
  after_results
  rw [show Pipeline.withArrays (cfgs 0).spec c (V0 m c) (fun w => (dats m 0 c).arrAt w (cfgs 0).N) (Proc.tc.devRef main_v1)
      = sumOfLosses m c from
    (Dat.withArrays_arrAt (dats m 0 c) sharedIn0 (V0 m c) (A_eq m c) 5).trans (array_total m c)]
  funext j
  idx_vars j
  pointwise []
  rfl

/-- The run, read: the result is the mean loss and both arguments are as they were. -/
theorem run : θ_run defs (onTc (τ := τ) (main (F := Ideal))) ⟨m, fun _ => 0, ρ⟩ fun r => ∀ c : Dev nD,
      r.2.mem ((c : Thread nD τ).loc main_v4) = meanLoss m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h.1 c).2 main_v4 (Pipeline.mem_restRefs_of main_v4 (by decide) (by decide))).trans (divided m c), (h.2 c).1, (h.2 c).2⟩)
    (θ_run_and (run_main m ρ) (unchanged m ρ))

end Cert.KernelIdeal.Ramp

end
-- ==== Proof.Ramp.RefRow.lean ====
/- The ramp loss of one row in the form the reference writes it, and why it is the same number. -/
module

public import proofs.«01_k».proof.Proof.Ramp.RowLoss

@[expose] public section

noncomputable section

namespace Cert.Ramp

open Idealize.ShloMosaic

/-! ## The reference's form -/

/-- A target counted from the end of the classes when it is negative. -/
def wrapped (t : BitVec 32) : BitVec 32 :=
  Scalar.select (IntOp.cmpi .slt t 0#32) (IntOp.addi t 1000#32) t

/-- Whether a target, once wrapped, names a class. -/
def inside (w : BitVec 32) : BitVec 1 :=
  Finset.univ.fold IntOp.andi 1#1 fun _ : Fin 1 =>
    IntOp.andi (IntOp.cmpi .sge w 0#32) (IntOp.cmpi .sle w 999#32)

/-- The logit looked up at the target, a placeholder when it names no class. -/
def looked (x : Fin 1000 → EReal) (t : BitVec 32) : EReal :=
  Scalar.select (inside (wrapped t)) (x ⟨min (wrapped t).toInt.toNat 999, by omega⟩)
    (Ideal.ofBits .f32 0x7FC00000#32)

/-- The largest of the other logits, the comparison written the other way round. -/
def others (x : Fin 1000 → EReal) (t : BitVec 32) : EReal :=
  Finset.univ.fold max low fun j => Scalar.select (IntOp.cmpi .eq t (BitVec.ofNat 32 j.val)) low (x j)

/-- The reference's margin: the looked-up logit less the others' largest, negated. -/
def margin (x : Fin 1000 → EReal) (t : BitVec 32) : EReal := -(looked x t - others x t)

/-- The reference's row loss: one above the ramp, zero below it, the ramp in between. -/
def refLoss (x : Fin 1000 → EReal) (t : BitVec 32) : EReal :=
  if 0 < margin x t then Ideal.ofBits .f32 0x3F800000#32
  else if margin x t < Ideal.ofBits .f32 0xBF800000#32 then Ideal.ofBits .f32 0x00000000#32
  else 1 + Ideal.div (margin x t) 1

/-! ## Constants -/

/-- The masking value is minus infinity. -/
theorem low_eq : low = ⊥ := by simp [low, Ideal.ofBits, Ideal.ieee]

/-- The word the programs write for one. -/
theorem word_one : Ideal.ofBits .f32 0x3F800000#32 = 1 := by
  rw [show (1 : EReal) = ((1 : ℝ) : EReal) from rfl]
  simp [Ideal.ofBits, Ideal.ieee, -EReal.coe_mul]
  norm_num

/-- The word the programs write for minus one. -/
theorem word_neg_one : Ideal.ofBits .f32 0xBF800000#32 = -1 := by
  rw [show (-1 : EReal) = ((-1 : ℝ) : EReal) from rfl]
  simp [Ideal.ofBits, Ideal.ieee, -EReal.coe_mul, -EReal.coe_neg]
  norm_num

/-- The word the programs write for zero. -/
theorem word_zero : Ideal.ofBits .f32 0x00000000#32 = 0 := by simp [Ideal.ofBits, Ideal.ieee]

/-- Dividing by one changes nothing. -/
theorem div_by_one (x : EReal) : Ideal.div x 1 = x := by simp [Ideal.div]

/-! ## Targets that name a class -/

/-- The word of a class number reads back, signed, as that number. -/
theorem toInt_class (k : Fin 1000) : (BitVec.ofNat 32 k.val).toInt = k.val := by
  rw [BitVec.toInt_eq_toNat_cond, BitVec.toNat_ofNat]
  split <;> omega

/-- Words of different classes differ. -/
theorem isNamed_class (k j : Fin 1000) :
    isNamed (BitVec.ofNat 32 k.val) j = if j = k then 1#1 else 0#1 := by
  unfold isNamed IntOp.cmpi
  by_cases h : j = k
  · subst h; simp
  · have : BitVec.ofNat 32 j.val ≠ BitVec.ofNat 32 k.val := fun e => h (Fin.ext (by
      have := congrArg BitVec.toInt e
      rw [toInt_class, toInt_class] at this
      omega))
    show BitVec.ofBool (BitVec.ofNat 32 j.val == BitVec.ofNat 32 k.val) = _
    rw [if_neg h, beq_eq_false_iff_ne.mpr this]
    rfl

/-- A class number is not negative, so it is not wrapped. -/
theorem wrapped_class (k : Fin 1000) : wrapped (BitVec.ofNat 32 k.val) = BitVec.ofNat 32 k.val := by
  have h : ¬ (BitVec.ofNat 32 k.val).toInt < (0#32).toInt := by rw [toInt_class]; simp
  unfold wrapped IntOp.cmpi BitVec.slt
  simp only [h, decide_false]
  rfl

/-- A class number is in range. -/
theorem inside_class (k : Fin 1000) : inside (BitVec.ofNat 32 k.val) = 1#1 := by
  have h0 : (0#32).toInt ≤ (BitVec.ofNat 32 k.val).toInt := by rw [toInt_class]; simp
  have h1 : (BitVec.ofNat 32 k.val).toInt ≤ (999#32).toInt := by
    rw [toInt_class, show (999#32).toInt = 999 from by decide]; omega
  have : IntOp.andi (IntOp.cmpi .sge (BitVec.ofNat 32 k.val) 0#32) (IntOp.cmpi .sle (BitVec.ofNat 32 k.val) 999#32) = 1#1 := by
    unfold IntOp.cmpi BitVec.sle
    simp only [h0, h1, decide_true]
    decide
  unfold inside
  rw [this]
  decide

/-- So the looked-up logit is the named class's. -/
theorem looked_class (x : Fin 1000 → EReal) (k : Fin 1000) : looked x (BitVec.ofNat 32 k.val) = x k := by
  unfold looked
  simp only [wrapped_class, inside_class]
  unfold Scalar.select
  rw [if_pos (show (1#1 : BitVec 1) = 1 from rfl)]
  congr 1
  apply Fin.ext
  show min (BitVec.ofNat 32 k.val).toInt.toNat 999 = k.val
  rw [toInt_class]
  omega

/-- The maximum over a row with every other entry masked is the named class's logit. -/
theorem named_class (x : Fin 1000 → EReal) (k : Fin 1000) : named x (BitVec.ofNat 32 k.val) = x k := by
  unfold named
  simp only [isNamed_class, low_eq]
  refine le_antisymm (Finset.fold_max_le _ |>.mpr ⟨bot_le, fun j _ => ?_⟩) (Finset.le_fold_max _ |>.mpr (Or.inr ⟨k, Finset.mem_univ k, ?_⟩))
  · by_cases h : j = k
    · subst h; simp [Scalar.select]
    · simp [Scalar.select, h]
  · simp [Scalar.select]

/-- Comparing the target with the class or the class with the target is the same. -/
theorem others_eq (x : Fin 1000 → EReal) (t : BitVec 32) : others x t = rival x t := by
  unfold others rival isNamed IntOp.cmpi
  simp only [Bool.beq_comm]

/-! ## The two forms agree -/

/-- The piecewise ramp is the clipped one. -/
theorem ramp_eq_clip (g : EReal) :
    (if 0 < g then (1 : EReal) else if g < -1 then 0 else 1 + g) = min 1 (max 0 (1 + g)) := by
  by_cases h : 0 < g
  · rw [if_pos h]
    have : (1 : EReal) ≤ 1 + g := le_add_of_nonneg_right h.le
    exact (min_eq_left (this.trans (le_max_right _ _))).symm
  · rw [if_neg h]
    have hg : g ≤ 0 := not_lt.mp h
    have h1 : 1 + g ≤ 1 := by simpa using add_le_add_right hg (1 : EReal)
    have hz : (1 : EReal) + -1 = 0 := by
      rw [← sub_eq_add_neg]
      exact EReal.sub_self (EReal.coe_ne_top 1) (EReal.coe_ne_bot 1)
    by_cases h' : g < -1
    · rw [if_pos h']
      have : 1 + g ≤ 0 := hz ▸ add_le_add_right h'.le (1 : EReal)
      rw [max_eq_left this, min_eq_right zero_le_one]
    · rw [if_neg h']
      have : 0 ≤ 1 + g := hz ▸ add_le_add_right (not_lt.mp h') (1 : EReal)
      rw [max_eq_right this, min_eq_right h1]

/-- What the precondition asks of a row: the named logit and the largest other one are not the same infinity. -/
def RowOk (x : Fin 1000 → EReal) (t : BitVec 32) : Prop :=
  (named x t ≠ ⊥ ∧ named x t ≠ ⊤) ∨ named x t ≠ rival x t

/-- When the target names a class, the reference's row loss on such a row is the kernel's. -/
theorem refLoss_class (x : Fin 1000 → EReal) (k : Fin 1000) (h : RowOk x (BitVec.ofNat 32 k.val)) :
    refLoss x (BitVec.ofNat 32 k.val) = rowLoss x (BitVec.ofNat 32 k.val) := by
  have e : margin x (BitVec.ofNat 32 k.val)
      = rival x (BitVec.ofNat 32 k.val) - named x (BitVec.ofNat 32 k.val) := by
    unfold margin
    rw [looked_class, others_eq, ← named_class x k, EReal.neg_sub, add_comm, sub_eq_add_neg]
    · exact h.elim (fun f => Or.inl f.1) fun f => not_and_or.mp fun g => f (g.1.trans g.2.symm)
    · exact h.elim (fun f => Or.inl f.2) fun f => not_and_or.mp fun g => f (g.1.trans g.2.symm)
  unfold refLoss rowLoss
  rw [e, word_one, word_neg_one, word_zero, div_by_one]
  exact ramp_eq_clip _

/-! ## Targets that name no class -/

section NoClass

variable (x : Fin 1000 → EReal) (t : BitVec 32) (h : ∀ j, isNamed t j = 0#1)

include h in
/-- No logit is named, so the masked maximum is minus infinity. -/
theorem named_none : named x t = ⊥ := by
  unfold named
  refine le_bot_iff.mp ((Finset.fold_max_le _).mpr ⟨low_eq.le, fun j _ => ?_⟩)
  rw [h j, low_eq]
  exact le_of_eq rfl

include h in
/-- No logit is masked, so the others' maximum is the row's. -/
theorem rival_none : rival x t = Finset.univ.fold max low x := by
  unfold rival
  congr 1
  funext j
  rw [h j]
  rfl

/-- Whatever is looked up, it is at most the row's maximum: one of its logits, or the placeholder. -/
theorem looked_le : looked x t ≤ Finset.univ.fold max low x := by
  unfold looked Scalar.select
  split
  · exact (Finset.le_fold_max _).mpr (Or.inr ⟨_, Finset.mem_univ _, le_rfl⟩)
  · have : Ideal.ofBits .f32 0x7FC00000#32 = ⊥ := by simp [Ideal.ofBits, Ideal.ieee]
    rw [this]
    exact bot_le

include h in
/-- The reference's loss is one: its margin is not negative. -/
theorem refLoss_none : refLoss x t = 1 := by
  have hm : 0 ≤ margin x t := by
    unfold margin
    rw [others_eq, rival_none x t h]
    exact EReal.neg_nonneg.mpr (EReal.sub_nonpos.mpr (looked_le x t))
  unfold refLoss
  rw [word_one, word_neg_one, word_zero, div_by_one, ramp_eq_clip]
  exact min_eq_left ((le_add_of_nonneg_right hm).trans (le_max_right _ _))

include h in
/-- The kernel's loss is one: its margin is plus infinity, unless the whole row is minus infinity. -/
theorem rowLoss_none (hx : RowOk x t) : rowLoss x t = 1 := by
  have hn := named_none x t h
  have hr : rival x t ≠ ⊥ := hx.elim (fun f => absurd hn f.1) fun f e => f (hn.trans e.symm)
  unfold rowLoss
  rw [div_by_one, hn, EReal.sub_bot hr, show (1 : EReal) + ⊤ = ⊤ from EReal.add_top_of_ne_bot (EReal.coe_ne_bot 1)]
  exact min_eq_left (le_top.trans (le_max_right _ _))

end NoClass

/-- On such a row the reference's loss is the kernel's, whatever the target. -/
theorem refLoss_eq (x : Fin 1000 → EReal) (t : BitVec 32) (h : RowOk x t) : refLoss x t = rowLoss x t := by
  by_cases ht : ∃ k : Fin 1000, t = BitVec.ofNat 32 k.val
  · obtain ⟨k, rfl⟩ := ht
    exact refLoss_class x k h
  · have hn : ∀ j, isNamed t j = 0#1 := fun j => by
      show BitVec.ofBool (BitVec.ofNat 32 j.val == t) = _
      rw [beq_eq_false_iff_ne.mpr fun e => ht ⟨j, e.symm⟩]
      rfl
    rw [refLoss_none x t hn, rowLoss_none x t hn h]

end Cert.Ramp

end
-- ==== Proof.Ramp.RefValue.lean ====
/- What the idealized reference's result is: the mean of the row losses, by its own run read entry by entry. -/
module

public import proofs.«01_k».proof.Proof.Gen.ReferenceIdeal.Run
public import proofs.«01_k».proof.Proof.Ramp.RefRow

@[expose] public section

set_option maxRecDepth 16384

noncomputable section

namespace Cert.ReferenceIdeal.Ramp
open Idealize.ShloMosaic Idealize.ShloMosaic.TcCoe Idealize.SL.Sem
open Cert.ReferenceIdeal Cert.Ramp

/-- Taking along the class axis: row `n` reads its own row, at the index it was given, clamped to the last class. -/
theorem taken {α : Type} (x : S16384x1000.Idx → α) (i : IVec S16384x1x1 32) (n : Fin 16384) (a : Fin 1) :
    Host.gather gather_S16384x1000_S16384x1x1_S16384x1_n_1_0_0_1_2_11 x i (ix2 n a)
      = x (ix2 n ⟨min (i (ix3 n a 0)).toInt.toNat 999, by omega⟩) := by
  show x _ = x _
  congr 1
  funext d
  apply Fin.ext
  match d with
  | ⟨0, _⟩ =>
    show GatherDims.start _ _ _ 0 + GatherDims.batchCoord _ _ 0 + GatherDims.offCoord _ _ 0 = n.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 2) ∈ gather_S16384x1000_S16384x1x1_S16384x1_n_1_0_0_1_2_11.operandBatchingDims from
      List.mem_singleton.mpr rfl)]
    rfl
  | ⟨1, _⟩ =>
    show GatherDims.start _ _ _ 1 + GatherDims.batchCoord _ _ 1 + GatherDims.offCoord _ _ 1 = min (i (ix3 n a 0)).toInt.toNat 999
    rw [GatherDims.batchCoord_eq_zero _ _ _ (by decide),
      GatherDims.offCoord_eq_zero _ _ _ (fun h => ((GatherDims.mem_sKept _ _).mp h).1 (List.mem_singleton.mpr rfl)),
      Nat.add_zero]
    unfold GatherDims.start
    rw [dif_pos (show (1 : Fin 2) ∈ gather_S16384x1000_S16384x1x1_S16384x1_n_1_0_0_1_2_11.startIndexMap from List.mem_singleton.mpr rfl)]
    have e : ∀ h, gather_S16384x1000_S16384x1x1_S16384x1_n_1_0_0_1_2_11.siIdx (ix2 n a) ⟨List.idxOf (1 : Fin 2) [1], h⟩ = ix3 n a 0 := by
      intro h
      funext b; apply Fin.ext
      match b with
      | ⟨0, _⟩ => rfl
      | ⟨1, _⟩ => rfl
      | ⟨2, _⟩ => rfl
    exact congrArg (fun k => min (i k).toInt.toNat 999) (e _)

variable (m : (ℓ : Loc nD τ sig) → Buf (Elt Ideal) ℓ)

/-- The rows of logits the reference is launched with. -/
def logits (c : Dev nD) (n : Fin 16384) (j : Fin 1000) : EReal := m (c.tc.loc main_arg0) (ix2 n j)

/-- The targets the reference is launched with. -/
def targets (c : Dev nD) (n : Fin 16384) : BitVec 32 := m (c.tc.loc main_arg1) (ix1 n)

/-- The result, as written: the sum of the reference's row losses over the number of rows. -/
theorem result_rows (c : Dev nD) (a : Fin 1) :
    Value.res_main_v20 m c (ix1 a)
      = Ideal.div (∑ n : Fin 16384, refLoss (logits m c n) (targets m c n)) (Ideal.ofBits .f32 0x46800000#32) := by
  unfold Value.res_main_v20
  pointwise []
  simp only [taken]
  pointwise []
  congr 1

/-- When every row is as the precondition asks, the result is the mean of the kernel's row losses. -/
theorem result_eq (c : Dev nD) (h : ∀ n, RowOk (logits m c n) (targets m c n)) :
    Value.res_main_v20 m c
      = fun _ => Ideal.div (total (logits m c) (targets m c) 16384) (Ideal.ofBits .f32 0x46800000#32) := by
  funext j
  idx_vars j
  rw [result_rows, total_all]
  exact congrArg (fun s => Ideal.div s (Ideal.ofBits .f32 0x46800000#32)) (Finset.sum_congr rfl fun n _ => refLoss_eq _ _ (h n))

end Cert.ReferenceIdeal.Ramp

end
-- ==== Proof.Ramp.Precondition.lean ====
/- What the precondition says of the arrays: in no row are the named logit and the
   largest other one the same infinity. -/
module

public import proofs.«01_k».proof.Pre_margins_ok
public import proofs.«01_k».proof.Proof.Ramp.RefRow

@[expose] public section

set_option maxRecDepth 16384

noncomputable section

namespace Cert.Pre_margins_ok

open Idealize.ShloMosaic Cert.Ramp

/-- The shape relations of the precondition's operations. -/
instance facts : Cert.Pre_margins_ok.Facts where
  bcast_S16384_S16384x1_0 := by decide
  bcast_S16384x1_S16384x1000_0_1 := by decide
  bcast_S_S16384x1000 := by decide
  reducesTo_S16384x1000_S16384_d1 := by decide
  h_S_ := by decide
  bcast_S_S16384 := by decide
  reducesTo_S16384_S_d0 := by decide

/-- A conjunction of bits is one exactly when both are. -/
theorem and_bits {a b : BitVec 1} : IntOp.andi a b = 1#1 ↔ a = 1#1 ∧ b = 1#1 := by
  rcases BitVec.eq_zero_or_eq_one a with rfl | rfl <;> rcases BitVec.eq_zero_or_eq_one b with rfl | rfl <;> decide

/-- A left conjunction over a list that comes to one has every entry one. -/
theorem and_list {α : Type} (f : α → BitVec 1) (l : List α) (b : BitVec 1)
    (h : l.foldl (fun acc i => IntOp.andi acc (f i)) b = 1#1) : b = 1#1 ∧ ∀ i ∈ l, f i = 1#1 := by
  induction l generalizing b with
  | nil => exact ⟨h, fun i hi => absurd hi (by simp)⟩
  | cons a l ih =>
    obtain ⟨h1, h2⟩ := ih _ h
    obtain ⟨hb, ha⟩ := and_bits.mp h1
    exact ⟨hb, fun i hi => (List.mem_cons.mp hi).elim (fun e => e ▸ ha) (h2 i)⟩

/-- A conjunction over a whole array that comes to one has every entry one. -/
theorem and_all {s : Shape} {dims : List (Fin s.rank)} (x : IVec s 1) (v : IVec S_ 1) (h : s.ReducesTo dims S_) (h' : 0 < S_.numel)
    (j : S_.Idx) (e : Host.reduce IntOp.andi x v h h' j = 1#1) (i : s.Idx) : x i = 1#1 := by
  have := (and_list (fun n => x (s.rowMajor.symm n)) _ _ e).2 (s.rowMajor i)
    (List.mem_filter.mpr ⟨List.mem_finRange _, decide_eq_true (funext fun a => a.elim0)⟩)
  rwa [Equiv.symm_apply_apply] at this

/-- An absolute value below plus infinity is of a finite number. -/
theorem finite_of_lt (y : EReal) (h : FloatOps.cmpf (F := Ideal) (φ := .f32) .olt (FloatOps.absf y) (Ideal.ofBits .f32 0x7F800000#32) = 1#1) :
    y ≠ ⊥ ∧ y ≠ ⊤ := by
  have hi : Ideal.ofBits .f32 0x7F800000#32 = ⊤ := by simp [Ideal.ofBits, Ideal.ieee]
  rw [hi] at h
  induction y with
  | bot => exact absurd h (by simp [FloatOps.cmpf, FloatOps.absf, Ideal.cmp])
  | top => exact absurd h (by simp [FloatOps.cmpf, FloatOps.absf, Ideal.cmp])
  | coe r => exact ⟨EReal.coe_ne_bot r, EReal.coe_ne_top r⟩

/-- The bit of one row: its named logit is finite, or it differs from the largest other one. -/
theorem row_of_bit (a b : EReal) (h : IntOp.ori (FloatOps.cmpf (F := Ideal) (φ := .f32) .olt (FloatOps.absf a)
      (Ideal.ofBits .f32 0x7F800000#32)) (FloatOps.cmpf (F := Ideal) (φ := .f32) .une a b) = 1#1) :
    (a ≠ ⊥ ∧ a ≠ ⊤) ∨ a ≠ b := by
  by_cases e : a = b
  · have hne : FloatOps.cmpf (F := Ideal) (φ := .f32) .une a b = 0#1 := by simp [FloatOps.cmpf, Ideal.cmp, e]
    rw [hne] at h
    refine Or.inl (finite_of_lt a ?_)
    rcases BitVec.eq_zero_or_eq_one (FloatOps.cmpf (F := Ideal) (φ := .f32) .olt (FloatOps.absf a)
      (Ideal.ofBits .f32 0x7F800000#32)) with h0 | h1
    · rw [h0] at h
      exact absurd h (by decide)
    · exact h1
  · exact Or.inr e

/-- The same of the arrays of named and of largest other logits, at one row. -/
theorem row_of_arrays (a b : FVec Ideal S16384 .f32) (i : S16384.Idx)
    (h : ori (cmpf .olt (Host.absf a) (broadcastInDim S16384 ![] Facts.bcast_S_S16384 (constant S_ .f32 0x7F800000#32)))
      (cmpf .une a b) i = 1#1) : (a i ≠ ⊥ ∧ a i ≠ ⊤) ∨ a i ≠ b i :=
  row_of_bit (a i) (b i) h

/-- The mask of the entries that the targets name, as the precondition computes it. -/
def mask (t : IVec S16384 32) : IVec S16384x1000 1 :=
  cmpi .eq (iotaInDim S16384x1000 32 1) (broadcastInDim S16384x1000 ![0, 1] Facts.bcast_S16384x1_S16384x1000_0_1
    (broadcastInDim S16384x1 ![0] Facts.bcast_S16384_S16384x1_0 t))

/-- The row maxima of an array, as the precondition computes them. -/
def rowMax (x : FVec Ideal S16384x1000 .f32) : FVec Ideal S16384 .f32 :=
  Host.reduce FloatOps.maximumf x (constant S_ .f32 0xFF800000#32) Facts.reducesTo_S16384x1000_S16384_d1 Facts.h_S_

/-- The named logit of row `n`. -/
theorem rowMax_named (x : FVec Ideal S16384x1000 .f32) (t : IVec S16384 32) (n : Fin 16384) :
    rowMax (fn_where (F := Ideal) (mask t) x (constant S_ .f32 0xFF800000#32)) (ix1 n)
      = named (fun j => x (ix2 n j)) (t (ix1 n)) := by
  unfold rowMax fn_where mask
  pointwise []
  rfl

/-- The largest other logit of row `n`. -/
theorem rowMax_rival (x : FVec Ideal S16384x1000 .f32) (t : IVec S16384 32) (n : Fin 16384) :
    rowMax (fn_where_0 (F := Ideal) (mask t) (constant S_ .f32 0xFF800000#32) x) (ix1 n)
      = rival (fun j => x (ix2 n j)) (t (ix1 n)) := by
  unfold rowMax fn_where_0 mask
  pointwise []
  rfl

/-- Under the precondition, every row is as the equation of the row losses asks. -/
theorem row_ok (x : FVec Ideal S16384x1000 .f32) (t : IVec S16384 32)
    (h : fn (F := Ideal) x t = fun _ => 1#1) (n : Fin 16384) : RowOk (fun j => x (ix2 n j)) (t (ix1 n)) := by
  have hw : ori (cmpf .olt (Host.absf (rowMax (fn_where (F := Ideal) (mask t) x (constant S_ .f32 0xFF800000#32))))
        (broadcastInDim S16384 ![] Facts.bcast_S_S16384 (constant S_ .f32 0x7F800000#32)))
      (cmpf .une (rowMax (fn_where (F := Ideal) (mask t) x (constant S_ .f32 0xFF800000#32)))
        (rowMax (fn_where_0 (F := Ideal) (mask t) (constant S_ .f32 0xFF800000#32) x))) (ix1 n) = 1#1 :=
    and_all _ _ _ _ _ (congrFun h (fun i => i.elim0)) (ix1 n)
  have := row_of_arrays _ _ _ hw
  rwa [rowMax_named, rowMax_rival] at this

end Cert.Pre_margins_ok

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ramp.KernelValue
public import proofs.«01_k».proof.Proof.Ramp.RefValue
public import proofs.«01_k».proof.Proof.Ramp.Precondition
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, its result is the value read off its lines, its arguments are unchanged, and, since it declares no
    semaphore, every counter is zero. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2, sem_eq_zero_of_no_sems (by decide) r.2⟩) (Cert.ReferenceIdeal.Value.run m g)

/-- The kernel and the reference, from the same arrays under the precondition, end with the same result. -/
theorem same_result : Cert.algebraic_KernelIdeal_ReferenceIdeal_pre_margins_ok := fun m g m' g' hpre hargs => by
  refine ⟨Cert.KernelIdeal.Ramp.meanLoss m, Cert.KernelIdeal.Ramp.run m g,
    (θ_run Cert.ReferenceIdeal.defs _ _).mono (fun r h c => ⟨(h c).1.trans ?_, (h c).2⟩) (Cert.ReferenceIdeal.Value.run m' g')⟩
  have hl : Cert.ReferenceIdeal.Ramp.logits m' c = Cert.KernelIdeal.Ramp.logits m c :=
    funext fun n => funext fun j => congrFun (hargs c).1 (ix2 n j)
  have ht : Cert.ReferenceIdeal.Ramp.targets m' c = Cert.KernelIdeal.Ramp.targets m c :=
    funext fun n => congrFun (hargs c).2 (ix1 n)
  have h : ∀ n, Cert.Ramp.RowOk (Cert.ReferenceIdeal.Ramp.logits m' c n) (Cert.ReferenceIdeal.Ramp.targets m' c n) := by
    rw [hl, ht]
    exact fun n => Cert.Pre_margins_ok.row_ok _ _ (hpre c) n
  rw [Cert.ReferenceIdeal.Ramp.result_eq m' c h, hl, ht]
  rfl

/-- All the claims. -/
theorem claim : Cert.Claim :=
  ⟨Cert.Kernel.Gen.facts, Cert.KernelIdeal.Gen.facts, Cert.ReferenceIdeal.Gen.facts, Cert.Pre_margins_ok.facts,
    fun m g _ => Cert.Kernel.Gen.frame m g,
    fun m g _ => Cert.KernelIdeal.Gen.frame m g,
    fun m g _ => Cert.KernelIdeal.Gen.frame m g,
    fun m g _ => reference_run m g,
    fun m g _ => reference_run m g,
    trivial,
    same_result⟩

end Cert.Proof

end
